-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encodable [hPre_encodable : Cert.Pre_encodable.Facts] (m : (ℓ : Loc Cert.KernelIdeal.nD Cert.KernelIdeal.τ Cert.KernelIdeal.sig) → Buf (Elt Ideal) ℓ) : Prop :=
  ∀ c : Dev Cert.KernelIdeal.nD,
    (Cert.Pre_encodable.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encodable [hPre_encodable : Cert.Pre_encodable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encodable.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_encodable [hKernelIdeal : Cert.KernelIdeal.Facts] [hPre_encodable : Cert.Pre_encodable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encodable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_encodable [hReferenceIdeal : Cert.ReferenceIdeal.Facts] [hPre_encodable : Cert.Pre_encodable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encodable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_encodable [hKernelIdeal : Cert.KernelIdeal.Facts] [hReferenceIdeal : Cert.ReferenceIdeal.Facts] [hPre_encodable : Cert.Pre_encodable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encodable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_encodable : Cert.Pre_encodable.Facts),
    quiescent_Kernel (hKernel := hKernel)
    ∧ quiescent_KernelIdeal (hKernelIdeal := hKernelIdeal)
    ∧ quiescent_KernelIdeal_pre_encodable (hKernelIdeal := hKernelIdeal) (hPre_encodable := hPre_encodable)
    ∧ quiescent_ReferenceIdeal (hReferenceIdeal := hReferenceIdeal)
    ∧ quiescent_ReferenceIdeal_pre_encodable (hReferenceIdeal := hReferenceIdeal) (hPre_encodable := hPre_encodable)
    ∧ preserves_Kernel_KernelIdeal
    ∧ algebraic_KernelIdeal_ReferenceIdeal_pre_encodable (hKernelIdeal := hKernelIdeal) (hReferenceIdeal := hReferenceIdeal) (hPre_encodable := hPre_encodable)
-- ==== Pre_encodable.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_cst : FVec F S_ .f32 := constant S_ .f32 0x3DCCCCCD#32
  let main_v0 : FVec F S4096x2048 .f32 := broadcastInDim S4096x2048 ![] bcast_S_S4096x2048 main_cst
  let main_v1 : IVec S4096x2048 1 := cmpf .ole main_arg0 main_v0
  let main_cst_0 : FVec F S_ .f32 := constant S_ .f32 0x3F800000#32
  let main_v2 : FVec F S4096x2048 .f32 := broadcastInDim S4096x2048 ![] bcast_S_S4096x2048 main_cst_0
  let main_v3 : IVec S4096x2048 1 := cmpf .oeq main_arg0 main_v2
  let main_v4 : IVec S4096x2048 1 := ori main_v1 main_v3
  let main_cst_1 : FVec F S_ .f32 := constant S_ .f32 0x40000000#32
  let main_v5 : FVec F S4096x2048 .f32 := broadcastInDim S4096x2048 ![] bcast_S_S4096x2048 main_cst_1
  let main_v6 : IVec S4096x2048 1 := cmpf .oeq main_arg0 main_v5
  let main_v7 : IVec S4096x2048 1 := ori main_v4 main_v6
  let main_cst_2 : FVec F S_ .f32 := constant S_ .f32 0x40400000#32
  let main_v8 : FVec F S4096x2048 .f32 := broadcastInDim S4096x2048 ![] bcast_S_S4096x2048 main_cst_2
  let main_v9 : IVec S4096x2048 1 := cmpf .oeq main_arg0 main_v8
  let main_v10 : IVec S4096x2048 1 := ori main_v7 main_v9
  let main_cst_3 : FVec F S_ .f32 := constant S_ .f32 0x40800000#32
  let main_v11 : FVec F S4096x2048 .f32 := broadcastInDim S4096x2048 ![] bcast_S_S4096x2048 main_cst_3
  let main_v12 : IVec S4096x2048 1 := cmpf .oeq main_arg0 main_v11
  let main_v13 : IVec S4096x2048 1 := ori main_v10 main_v12
  let main_c : IVec S_ 1 := constantI S_ 1 1#1
  let main_v14 : IVec S_ 1 := (fun x v => Host.reduce IntOp.andi x v reducesTo_S4096x2048_S_d0_1 h_S_) main_v13 main_c
  main_v14
-- ==== Kernel.lean ====
abbrev S4096x2048 : Shape := ⟨2, ![4096, 2048]⟩
abbrev S4096x8192 : Shape := ⟨2, ![4096, 8192]⟩
abbrev S512x2048 : Shape := ⟨2, ![512, 2048]⟩
abbrev S512x8192 : Shape := ⟨2, ![512, 8192]⟩
abbrev S128x512 : Shape := ⟨2, ![128, 512]⟩
abbrev S1x512 : Shape := ⟨2, ![1, 512]⟩
abbrev S512x128 : Shape := ⟨2, ![512, 128]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .local _ .vmem, ⟨0, _⟩ => ⟨S512x2048, .f32⟩
  | .local _ .vmem, ⟨1, _⟩ => ⟨S512x2048, .f32⟩
  | .local _ .vmem, ⟨2, _⟩ => ⟨S512x8192, .f32⟩
  | .local _ .vmem, ⟨3, _⟩ => ⟨S512x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x2048 : Shape := ⟨2, ![4096, 2048]⟩
abbrev S_ : Shape := ⟨0, ![]⟩
abbrev S4096x2048x1 : Shape := ⟨3, ![4096, 2048, 1]⟩
abbrev S1x1x4 : Shape := ⟨3, ![1, 1, 4]⟩
abbrev S4096x2048x4 : Shape := ⟨3, ![4096, 2048, 4]⟩
abbrev S4096x8192 : Shape := ⟨2, ![4096, 8192]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S4096x2048, .f32⟩
  | .hbm, ⟨3, _⟩ => ⟨S4096x2048, .i1⟩
  | .hbm, ⟨4, _⟩ => ⟨S4096x2048, .i32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S_, .i32⟩
  | .hbm, ⟨14, _⟩ => ⟨S4096x2048, .i32⟩
  | .hbm, ⟨15, _⟩ => ⟨S4096x2048, .i32⟩
  | .hbm, ⟨16, _⟩ => ⟨S4096x2048x1, .i32⟩
  | .hbm, ⟨17, _⟩ => ⟨S1x1x4, .i32⟩
  | .hbm, ⟨18, _⟩ => ⟨S4096x2048x4, .i32⟩
  | .hbm, ⟨19, _⟩ => ⟨S4096x2048x4, .i32⟩
  | .hbm, ⟨20, _⟩ => ⟨S4096x2048x4, .i1⟩
  | .hbm, ⟨21, _⟩ => ⟨S4096x2048x4, .f32⟩
  | .hbm, ⟨22, _⟩ => ⟨S4096x2048x1, .i1⟩
  | .hbm, ⟨23, _⟩ => ⟨S_, .f32⟩
  | .hbm, ⟨24, _⟩ => ⟨S4096x2048x4, .i1⟩
  | .hbm, ⟨25, _⟩ => ⟨S4096x2048x4, .f32⟩
  | .hbm, ⟨26, _⟩ => ⟨S4096x2048x4, .f32⟩
  | .hbm, ⟨27, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_call2_v0 : Ref sig .tc := ⟨.hbm, 24, rfl⟩
abbrev main_call2_v1 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Proof.Block.lean ====
/-
  WHAT ONE GRID POINT WRITES, at the ideal instance: the body of the encoding kernel copies every count four times
  by a product with a zero-one matrix, 128 counts at a time, and compares each copy with its bin's count. Here the
  512-by-8192 block that a point leaves is read at an index.
-/
module

public import proofs.«01_k».proof.Proof.Gen.KernelIdeal.Value
public import Idealize.ShloMosaic.Lib.Pointwise
public import Idealize.ShloMosaic.Lib.Pipeline.ValueKit

@[expose] public section

noncomputable section

namespace Cert.KernelIdeal.Encode

open Cert.KernelIdeal Cert.KernelIdeal.Gen Idealize.ShloMosaic Idealize.SL.Sem

/-- The encoding of one count `x` at bin `b`: one where `x` is `b + 1`, else zero. -/
def bit (x : EReal) (b : ℕ) : EReal := if x = (((b + 1 : ℕ) : ℝ) : EReal) then 1 else 0

/-- Below 512 the arithmetic shift by two is the quotient by four. -/
theorem shift_word (l : Fin 512) : IntOp.shrsi ArithUnit.vector (BitVec.ofNat 32 l.val) 2#32 = BitVec.ofNat 32 (l.val / 4) := by
  revert l; decide +kernel

/-- Below 512 the word `(l & 3) + 1` is `l % 4 + 1`. -/
theorem bin_word (l : Fin 512) :
    (IntOp.addi (IntOp.andi (BitVec.ofNat 32 l.val) 3#32) 1#32).toInt = ((l.val % 4 + 1 : ℕ) : ℤ) := by
  revert l; decide +kernel

/-- The zero-one matrix at row `k`, column `l`: one where `l / 4` is `k`. -/
theorem spread_apply (k : Fin 128) (l : Fin 512) :
    k0_pay3 (F := Ideal) (ix2 k l) = if k.val = l.val / 4 then (1 : EReal) else 0 := by
  pointwise [k0_pay3]
  rw [shift_word]
  show (((BitVec.setWidth 32 (IntOp.cmpi CmpIPredicate.eq (BitVec.ofNat 32 k.val) (BitVec.ofNat 32 (l.val / 4)))).toInt : ℝ) : EReal) = _
  have hk := k.isLt
  have hl := l.isLt
  by_cases h : k.val = l.val / 4
  · rw [if_pos h, h]
    simp [IntOp.cmpi]
  · have hne : BitVec.ofNat 32 k.val ≠ BitVec.ofNat 32 (l.val / 4) := fun e => h (by
      have := congrArg BitVec.toNat e
      rw [BitVec.toNat_ofNat, BitVec.toNat_ofNat, Nat.mod_eq_of_lt (by omega), Nat.mod_eq_of_lt (by omega)] at this
      exact this)
    have hb : (BitVec.ofNat 32 k.val == BitVec.ofNat 32 (l.val / 4)) = false := by simpa using hne
    rw [if_neg h]
    simp [IntOp.cmpi, hb]

/-- The bins' counts at lane `l`: `l % 4 + 1`. -/
theorem bins_apply (l : Fin 512) :
    k0_pay4 (F := Ideal) (ix2 0 l) = (((l.val % 4 + 1 : ℕ) : ℝ) : EReal) := by
  pointwise [k0_pay4]
  show (((IntOp.addi (IntOp.andi (BitVec.ofNat 32 l.val) 3#32) 1#32).toInt : ℝ) : EReal) = _
  rw [bin_word]
  push_cast
  rfl

/-- 128 columns of the block, from column `off`, spread and compared: what each of the body's stores holds. -/
def slab (off : Fin 2 → ℕ) (h : S512x2048.Slices off S512x128) (x : FVec Ideal S512x2048 .f32) : FVec Ideal S512x512 .f32 :=
  select (cmpf .oeq
      (matmul dot_S512x128_S128x512_S512x512_1_0_0_1_n_n none
        (extractStridedSlice S512x128 off (truncf .bf16 x bitsLt_bf16_f32 : FVec Ideal S512x2048 .bf16) h) (k0_pay3 (F := Ideal))
        (constant S512x512 .f32 0x00000000#32))
      (broadcastTo S512x512 (k0_pay4 (F := Ideal)) broadcasts_S1x512_S512x512))
    (broadcast S512x512 (Scalar.ofBits .f32 0x3F800000#32)) (broadcast S512x512 (Scalar.ofBits .f32 0x00000000#32))

theorem slab_apply (o : ℕ) (h : S512x2048.Slices ![0, o] S512x128) (x : FVec Ideal S512x2048 .f32) (r : Fin 512) (l : Fin 512)
    (k : Fin 2048) (hk : k.val = o + l.val / 4) :
    slab ![0, o] h x (ix2 r l) = bit (x (ix2 r k)) (l.val % 4) := by
  pointwise [slab, bins_apply, spread_apply]
  rw [Finset.sum_eq_single (⟨l.val / 4, by omega⟩ : Fin 128)]
  · rw [if_pos rfl, mul_one, bit]
    have e : ∀ (k₁ k₂ : Fin 2048), k₁.val = k₂.val → x (ix2 r k₁) = x (ix2 r k₂) := fun k₁ k₂ e => by rw [Fin.ext e]
    rw [e _ k hk.symm]
  · intro q _ hq
    rw [if_neg (fun e => hq (Fin.ext e)), mul_zero]
  · intro hq; exact absurd (Finset.mem_univ _) hq

/-- The same at an index `y` of the slab stored from column `4 * o` of the block, which holds column `c` of it. -/
theorem piece_apply (o : ℕ) (h : S512x2048.Slices ![0, o] S512x128) (x : FVec Ideal S512x2048 .f32) (r : Fin 512) (c : Fin 8192)
    (y : S512x512.Idx) (h0 : r.val = (y 0).val) (h1 : c.val = 4 * o + (y 1).val) :
    slab ![0, o] h x y = bit (x (ix2 r ⟨c.val / 4, by have := c.isLt; omega⟩)) (c.val % 4) := by
  idx_vars y
  obtain rfl : r = y0 := Fin.ext h0
  have h1' : c.val = 4 * o + y1.val := h1
  rw [slab_apply o h x r y1 ⟨c.val / 4, by have := c.isLt; omega⟩ (by dsimp only; omega)]
  congr 1
  omega

/-- THE BLOCK a point leaves, at row `r`, column `c`: the bit of count `c / 4` at bin `c % 4`. -/
theorem block_apply (x : Vec Ideal S512x2048 .f32) (r : Fin 512) (c : Fin 8192) :
    out0_1 (F := Ideal) x (ix2 r c) = bit (x (ix2 r ⟨c.val / 4, by have := c.isLt; omega⟩)) (c.val % 4) := by
  unfold_out out0_1
  rw [View.ld_unit_zero (by funext a; fin_cases a <;> rfl)]
  canon_tiles y h
  case piece15 => exact piece_apply 0 slices_S512x2048_o0_0_S512x128 x r c y h0 (h1.trans (Nat.zero_add _).symm)
  case piece14 => exact piece_apply 128 slices_S512x2048_o0_128_S512x128 x r c y h0 h1
  case piece13 => exact piece_apply 256 slices_S512x2048_o0_256_S512x128 x r c y h0 h1
  case piece12 => exact piece_apply 384 slices_S512x2048_o0_384_S512x128 x r c y h0 h1
  case piece11 => exact piece_apply 512 slices_S512x2048_o0_512_S512x128 x r c y h0 h1
  case piece10 => exact piece_apply 640 slices_S512x2048_o0_640_S512x128 x r c y h0 h1
  case piece9 => exact piece_apply 768 slices_S512x2048_o0_768_S512x128 x r c y h0 h1
  case piece8 => exact piece_apply 896 slices_S512x2048_o0_896_S512x128 x r c y h0 h1
  case piece7 => exact piece_apply 1024 slices_S512x2048_o0_1024_S512x128 x r c y h0 h1
  case piece6 => exact piece_apply 1152 slices_S512x2048_o0_1152_S512x128 x r c y h0 h1
  case piece5 => exact piece_apply 1280 slices_S512x2048_o0_1280_S512x128 x r c y h0 h1
  case piece4 => exact piece_apply 1408 slices_S512x2048_o0_1408_S512x128 x r c y h0 h1
  case piece3 => exact piece_apply 1536 slices_S512x2048_o0_1536_S512x128 x r c y h0 h1
  case piece2 => exact piece_apply 1664 slices_S512x2048_o0_1664_S512x128 x r c y h0 h1
  case piece1 => exact piece_apply 1792 slices_S512x2048_o0_1792_S512x128 x r c y h0 h1
  case piece0 => exact piece_apply 1920 slices_S512x2048_o0_1920_S512x128 x r c y h0 h1

end Cert.KernelIdeal.Encode

end
-- ==== Proof.Array.lean ====
/-
  THE RESULT ARRAY of the encoding kernel, at the ideal instance: the eight blocks of 512 rows, each read at an index by
  `block_apply`, put together. Every entry `(r, c)` of the 4096-by-8192 result is the encoding of the count at
  `(r, c / 4)` at bin `c % 4`.
-/
module

public import proofs.«01_k».proof.Proof.Block

@[expose] public section

noncomputable section

namespace Cert.KernelIdeal.Encode

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every count of a 4096-by-2048 array encoded over four neighbouring columns. -/
def encoded (x : S4096x2048.Idx → EReal) : S4096x8192.Idx → EReal := fun i =>
  bit (x (ix2 (i 0) ⟨(i 1).val / 4, by have h : (i 1).val < 8192 := (i 1).isLt; omega⟩)) ((i 1).val % 4)

theorem index0 : ∀ t : Fin cfg0.N, win0_0.index t = ![t.val, 0] :=
  (by decide +kernel : ∀ t : Fin grid0.N, win0_0.index t = ![t.val, 0])

theorem index1 : ∀ t : Fin cfg0.N, win0_1.index t = ![t.val, 0] :=
  (by decide +kernel : ∀ t : Fin grid0.N, win0_1.index t = ![t.val, 0])

/-- After the run the result array is the encoding of the argument. -/
theorem final (c : Dev nD) :
    (dats m 0 c).arrAt 1 cfg0.N = encoded (m ((c : Thread nD τ).loc main_arg0)) := by
  refine (dats m 0 c).arrAt_eq_of_covers 1 _ (by decide +kernel) fun t hf y => ?_
  blk_simp
  rw [after0_1]
  have e := block_apply (iblk m c 0 t) (y 0) (y 1)
  rw [ix2_eta] at e
  rw [e]
  unfold encoded
  have hc : ((win0_1.blk t).view.emb y 1).val = (y 1).val := by blk_simp [index1]
  have hr : ((win0_1.blk t).view.emb y 0).val = t.val * 512 + (y 0).val := by blk_simp [index1]
  refine congrArg₂ bit ?_ (congrArg (· % 4) hc.symm)
  blk_simp [iblk]
  rw [V_main_arg0]
  refine congrArg (m ((c : Thread nD τ).loc main_arg0)) ?_
  funext a
  apply Fin.ext
  fin_cases a
  · refine Eq.trans ?_ hr.symm
    blk_simp [index0]
    rfl
  · show _ = (win0_1.index t 1 * 8192 + (y 1).val) / 4
    blk_simp [index0, index1]
    rfl

end Cert.KernelIdeal.Encode

end
-- ==== Proof.Ref.lean ====
/-
  THE REFERENCE at an index, at the ideal instance, for entries that are 1, 2, 3, 4 or at most a tenth: the entry truncated
  to an integer, less one, held between 0 and 3, one-hot over four bins, and zero where the entry is at most a tenth.
-/
module

public import proofs.«01_k».proof.Proof.Gen.ReferenceIdeal.Run
public import proofs.«01_k».proof.Proof.Gen.Pre_encodable
public import proofs.«01_k».proof.Proof.Array
public import Idealize.ShloMosaic.Lib.ReduceAll

@[expose] public section

noncomputable section

namespace Cert.ReferenceIdeal.Encode

open Cert.ReferenceIdeal Cert.ReferenceIdeal.Gen Idealize.ShloMosaic Idealize.ShloMosaic.TcCoe Idealize.SL.Sem
open Cert.KernelIdeal.Encode (bit)

/-- The threshold of the reference: the real number that the float word of 0.1 is. -/
def tenth : EReal := Ideal.ofBits .f32 0x3DCCCCCD#32

/-- The values the precondition allows an entry: a count of 1, 2, 3 or 4, or anything up to the threshold. -/
def Encodable (x : EReal) : Prop := x ≤ tenth ∨ ∃ n : Fin 4, x = (((n.val + 1 : ℕ) : ℝ) : EReal)

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

/-- The threshold is positive and below one. -/
theorem tenth_real : ∃ t : ℝ, tenth = (t : EReal) ∧ 0 < t ∧ t < 1 := by
  refine ⟨13421773 / 134217728, ?_, by norm_num, by norm_num⟩
  rw [tenth]
  simp [Ideal.ofBits, Ideal.ieee, -EReal.coe_mul]; norm_num

/-- The threshold is below every count that is not zero. -/
theorem tenth_lt (n : ℕ) : tenth < (((n + 1 : ℕ) : ℝ) : EReal) := by
  obtain ⟨t, ht, _, h1⟩ := tenth_real
  rw [ht, EReal.coe_lt_coe_iff]
  push_cast
  have h0 : (0 : ℝ) ≤ n := Nat.cast_nonneg n
  linarith

theorem ofBool_one (b : Bool) : BitVec.ofBool b = 1#1 ↔ b = true := by revert b; decide

/-- A count of 1 to 4 truncates to its word. -/
theorem fptosi_count (n : Fin 4) : Ideal.fptosi 32 (((n.val + 1 : ℕ) : ℝ) : EReal) = BitVec.ofNat 32 (n.val + 1) := by
  rw [Ideal.fptosi, Ideal.toIntClamped_coe, if_pos (Nat.cast_nonneg _), Int.floor_natCast]
  revert n; decide

/-- The held word of a count less one, met with a bin: one exactly at the count's own bin. -/
theorem bin_eq (n b : Fin 4) :
    (IntOp.cmpi CmpIPredicate.eq (IntOp.minsi 3#32 (IntOp.maxsi 0#32 (IntOp.subi (BitVec.ofNat 32 (n.val + 1)) 1#32)))
      (BitVec.ofNat 32 b.val)).toNat = if n.val = b.val then 1 else 0 := by
  revert n b; decide +kernel

/-- The precondition, opened: every entry is encodable. -/
theorem encodable_open (x : S4096x2048.Idx → EReal) (h : Cert.Pre_encodable.fn (F := Ideal) x = fun _ => 1#1)
    (i : S4096x2048.Idx) : Encodable (x i) := by
  have e := Host.reduce_andi_all _ _ _ _ ix0 (congrFun h ix0) i
  revert e
  pointwise [ofBits_two, ofBits_three, ofBits_four]
  intro e
  simp only [IntOp.ori_eq_one, ofBool_one, decide_eq_true_eq] at e
  rcases e with (((e | e) | e) | e) | e
  · exact Or.inl e
  · exact Or.inr ⟨0, by rw [e]; norm_num⟩
  · exact Or.inr ⟨1, by rw [e]; norm_num⟩
  · exact Or.inr ⟨2, by rw [e]; norm_num⟩
  · exact Or.inr ⟨3, by rw [e]; norm_num⟩

/-- One entry of the reference: its one-hot bit at bin `b`, zero up to the threshold, is the encoding of the entry at `b`. -/
theorem entry_eq (x : EReal) (hx : Encodable x) (b : ℕ) (hb : b < 4) :
    (if tenth < x then (((IntOp.cmpi CmpIPredicate.eq (IntOp.minsi 3#32 (IntOp.maxsi 0#32 (IntOp.subi (Ideal.fptosi 32 x) 1#32)))
      (BitVec.ofNat 32 b)).toNat : ℝ) : EReal) else 0) = bit x b := by
  rw [bit]
  rcases hx with h | ⟨n, hn⟩
  · rw [if_neg (not_lt.2 h), if_neg fun e => absurd ((tenth_lt b).trans_eq e.symm) (not_lt.2 h)]
  · subst hn
    rw [if_pos (tenth_lt _)]
    have e := bin_eq n ⟨b, hb⟩
    rw [← fptosi_count] at e
    refine (congrArg (fun k : ℕ => ((k : ℝ) : EReal)) e).trans ?_
    by_cases hk : n.val = b
    · rw [if_pos hk, if_pos (by rw [hk])]; simp
    · rw [if_neg hk, if_neg]
      · simp
      · rw [EReal.coe_eq_coe_iff, Nat.cast_inj]; omega

/-- The reference's result, as its operations compose it, at an index: the encoding of the entry at its bin. -/
theorem ref_apply (x : S4096x2048.Idx → EReal) (hx : ∀ i, Encodable (x i)) (r : Fin 4096) (c : Fin 8192) :
    (shapeCast S4096x8192 (select (α := EReal) (broadcastInDim S4096x2048x4 ![0, 1, 2] bcast_S4096x2048x1_S4096x2048x4_0_1_2 (broadcastInDim S4096x2048x1 ![0, 1] bcast_S4096x2048_S4096x2048x1_0_1 (cmpf (F := Ideal) (φ := .f32) .ogt x (broadcastInDim S4096x2048 ![] bcast_S_S4096x2048 (constant (F := Ideal) S_ .f32 0x3DCCCCCD#32))))) (uitofp (F := Ideal) .f32 (cmpi .eq (broadcastInDim S4096x2048x4 ![0, 1, 2] bcast_S4096x2048x1_S4096x2048x4_0_1_2 (broadcastInDim S4096x2048x1 ![0, 1] bcast_S4096x2048_S4096x2048x1_0_1 (minsi (broadcastInDim S4096x2048 ![] bcast_S_S4096x2048 (id (constantI S_ 32 3#32))) (maxsi (broadcastInDim S4096x2048 ![] bcast_S_S4096x2048 (id (constantI S_ 32 0#32))) (subi (fptosi (F := Ideal) (φ := .f32) 32 x) (broadcastInDim S4096x2048 ![] bcast_S_S4096x2048 (constantI S_ 32 1#32))))))) (broadcastInDim S4096x2048x4 ![0, 1, 2] bcast_S1x1x4_S4096x2048x4_0_1_2 (iotaInDim S1x1x4 32 2)))) (broadcastInDim S4096x2048x4 ![] bcast_S_S4096x2048x4 (constant (F := Ideal) S_ .f32 0x00000000#32))) shapeCasts_S4096x2048x4_S4096x8192 : S4096x8192.Idx → EReal) (ix2 r c)
      = bit (x (ix2 r ⟨c.val / 4, by omega⟩)) (c.val % 4) := by
  pointwise []
  exact entry_eq _ (hx _) (c.val % 4) (Nat.mod_lt _ (by omega))

end Cert.ReferenceIdeal.Encode

end
-- ==== Proof.lean ====
/-
  THE CLAIMS about the encoding kernel, put together: the generated frames of the kernel and of its reading over the
  extended reals, the reference's frame, and the equation of the two result arrays on encodable entries (the kernel's
  from Proof/Block.lean and Proof/Array.lean, the reference's from Proof/Ref.lean).
-/
module

public import proofs.«01_k».proof.Proof.Ref
public import Idealize.ShloMosaic.Lib.Quiescent
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_encodable
public import Idealize.ShloMosaic.Adequacy
public import Idealize.ShloMosaic.Init

@[expose] public section

noncomputable section

namespace Cert.Proof

open Idealize.ShloMosaic Idealize.ShloMosaic.TcCoe Idealize.SL.Sem

/-- The reference terminates, leaves its argument unchanged and every counter at zero (it declares no semaphore). -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems rfl r.2⟩)
    (Cert.ReferenceIdeal.Value.run m g)

/-- On encodable entries kernel and reference both end with the encoding of the argument. -/
theorem value : Cert.algebraic_KernelIdeal_ReferenceIdeal_pre_encodable := by
  intro m g m' g' hpre harg
  refine ⟨fun c => Cert.KernelIdeal.Encode.encoded (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Value.run_blocks m g)
    exact ⟨(h c).1.trans (Cert.KernelIdeal.Encode.final m c), (h c).2⟩
  · refine (θ_run Cert.ReferenceIdeal.defs _ _).mono (fun r h c => ?_) (Cert.ReferenceIdeal.Value.run m' g')
    refine ⟨(h c).1.trans ?_, (h c).2⟩
    rw [harg c]
    funext i
    obtain ⟨a, b, rfl⟩ : ∃ (a : Fin 4096) (b : Fin 8192), i = ix2 a b := ⟨i 0, i 1, eq_ix2 i⟩
    exact Cert.ReferenceIdeal.Encode.ref_apply _ (Cert.ReferenceIdeal.Encode.encodable_open _ (hpre c)) a b

theorem claim : Cert.Claim :=
  ⟨Cert.Kernel.Gen.facts, Cert.KernelIdeal.Gen.facts, Cert.ReferenceIdeal.Gen.facts, Cert.Pre_encodable.Gen.facts,
    fun m g _ => Cert.Kernel.Gen.frame m g, fun m g _ => Cert.KernelIdeal.Gen.frame m g, fun m g _ => Cert.KernelIdeal.Gen.frame m g,
    fun m g _ => frame_reference m g, fun m g _ => frame_reference m g, trivial, value⟩

end Cert.Proof

end
